-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S10000x1 : Shape := ⟨2, ![10000, 1]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩
abbrev S1000x128 : Shape := ⟨2, ![1000, 128]⟩
abbrev S1000x1 : Shape := ⟨2, ![1000, 1]⟩
abbrev S1000 : Shape := ⟨1, ![1000]⟩

abbrev nBuf : Space → Nat
  | .hbm => 83
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .f32⟩
  | .hbm, ⟨16, _⟩ => ⟨S320000, .f32⟩
  | .hbm, ⟨17, _⟩ => ⟨S_, .f32⟩
  | .hbm, ⟨18, _⟩ => ⟨S10000, .f32⟩
  | .hbm, ⟨19, _⟩ => ⟨S320000x1, .i32⟩
  | .hbm, ⟨20, _⟩ => ⟨S10000, .f32⟩
  | .hbm, ⟨21, _⟩ => ⟨S10000x1, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S1, .i32⟩
  | .hbm, ⟨31, _⟩ => ⟨S_, .i32⟩
  | .hbm, ⟨32, _⟩ => ⟨S320000x1, .i32⟩
  | .hbm, ⟨33, _⟩ => ⟨S320000x1, .i1⟩
  | .hbm, ⟨34, _⟩ => ⟨S1x1, .i32⟩
  | .hbm, ⟨35, _⟩ => ⟨S320000x1, .i32⟩
  | .hbm, ⟨36, _⟩ => ⟨S320000x1, .i1⟩
  | .hbm, ⟨37, _⟩ => ⟨S320000x1, .i1⟩
  | .hbm, ⟨38, _⟩ => ⟨S_, .i1⟩
  | .hbm, ⟨39, _⟩ => ⟨S320000, .i1⟩
  | .hbm, ⟨40, _⟩ => ⟨S320000x128, .f32⟩
  | .hbm, ⟨41, _⟩ => ⟨S320000x128, .i1⟩
  | .hbm, ⟨42, _⟩ => ⟨S_, .f32⟩
  | .hbm, ⟨43, _⟩ => ⟨S320000x128, .f32⟩
  | .hbm, ⟨44, _⟩ => ⟨S320000x128, .f32⟩
  | .hbm, ⟨45, _⟩ => ⟨S_, .f32⟩
  | .hbm, ⟨46, _⟩ => ⟨S10000x128, .f32⟩
  | .hbm, ⟨47, _⟩ => ⟨S320000x1, .i32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S1, .i32⟩
  | .hbm, ⟨60, _⟩ => ⟨S_, .i32⟩
  | .hbm, ⟨61, _⟩ => ⟨S320000x1, .i32⟩
  | .hbm, ⟨62, _⟩ => ⟨S320000x1, .i1⟩
  | .hbm, ⟨63, _⟩ => ⟨S1x1, .i32⟩
  | .hbm, ⟨64, _⟩ => ⟨S320000x1, .i32⟩
  | .hbm, ⟨65, _⟩ => ⟨S320000x1, .i1⟩
  | .hbm, ⟨66, _⟩ => ⟨S320000x1, .i1⟩
  | .hbm, ⟨67, _⟩ => ⟨S_, .i1⟩
  | .hbm, ⟨68, _⟩ => ⟨S320000, .i1⟩
  | .hbm, ⟨69, _⟩ => ⟨S320000x128, .f32⟩
  | .hbm, ⟨70, _⟩ => ⟨S320000x128, .i1⟩
  | .hbm, ⟨71, _⟩ => ⟨S_, .f32⟩
  | .hbm, ⟨72, _⟩ => ⟨S320000x128, .f32⟩
  | .hbm, ⟨73, _⟩ => ⟨S320000x128, .f32⟩
  | .hbm, ⟨74, _⟩ => ⟨S_, .f32⟩
  | .hbm, ⟨75, _⟩ => ⟨S10000x128, .f32⟩
  | .hbm, ⟨76, _⟩ => ⟨S320000x1, .i32⟩
  | .hbm, ⟨77, _⟩ => ⟨S10000x128, .f32⟩
  | .hbm, ⟨78, _⟩ => ⟨S1x128, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x1, .f32⟩
  | .local _ .vmem, ⟨14, _⟩ => ⟨S1000x1, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1000x128, .f32⟩
  | .local _ .vmem, ⟨24, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v15 : Ref sig .tc := ⟨.hbm, 73, rfl⟩
abbrev main_cst_2 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S10000x1 : Shape := ⟨2, ![10000, 1]⟩
abbrev S1x128 : Shape := ⟨2, ![1, 128]⟩
abbrev S10000x256 : Shape := ⟨2, ![10000, 256]⟩

abbrev nBuf : Space → Nat
  | .hbm => 151
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S256x128, .f32⟩
  | 10 => ⟨S128, .f32⟩
  | 11 => ⟨S1x320000, .i32⟩
  | 12 => ⟨S320000, .i32⟩
  | 13 => ⟨S1x320000, .i32⟩
  | 14 => ⟨S320000, .i32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S1, .i32⟩
  | 24 => ⟨S_, .i32⟩
  | 25 => ⟨S320000x1, .i32⟩
  | 26 => ⟨S320000x1, .i1⟩
  | 27 => ⟨S1x1, .i32⟩
  | 28 => ⟨S320000x1, .i32⟩
  | 29 => ⟨S320000x1, .i1⟩
  | 30 => ⟨S320000x1, .i1⟩
  | 31 => ⟨S_, .i1⟩
  | 32 => ⟨S320000, .i1⟩
  | 33 => ⟨S320000x128, .f32⟩
  | 34 => ⟨S320000x128, .i1⟩
  | 35 => ⟨S_, .f32⟩
  | 36 => ⟨S320000x128, .f32⟩
  | 37 => ⟨S320000x128, .f32⟩
  | 38 => ⟨S_, .f32⟩
  | 39 => ⟨S10000x128, .f32⟩
  | 40 => ⟨S320000x1, .i32⟩
  | 41 => ⟨S10000x128, .f32⟩
  | 42 => ⟨S_, .f32⟩
  | 43 => ⟨S320000, .f32⟩
  | 44 => ⟨S_, .f32⟩
  | 45 => ⟨S10000, .f32⟩
  | 46 => ⟨S320000x1, .i32⟩
  | 47 => ⟨S10000, .f32⟩
  | 48 => ⟨S_, .f32⟩
  | 49 => ⟨S10000, .f32⟩
  | 50 => ⟨S10000, .f32⟩
  | 51 => ⟨S10000x1, .f32⟩
  | 52 => ⟨S10000x128, .f32⟩
  | 53 => ⟨S10000x128, .f32⟩
  | 54 => ⟨S10000x128, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S1, .i32⟩
  | 69 => ⟨S_, .i32⟩
  | 70 => ⟨S320000x1, .i32⟩
  | 71 => ⟨S320000x1, .i1⟩
  | 72 => ⟨S1x1, .i32⟩
  | 73 => ⟨S320000x1, .i32⟩
  | 74 => ⟨S320000x1, .i1⟩
  | 75 => ⟨S320000x1, .i1⟩
  | 76 => ⟨S_, .i1⟩
  | 77 => ⟨S320000, .i1⟩
  | 78 => ⟨S320000x128, .f32⟩
  | 79 => ⟨S320000x128, .i1⟩
  | 80 => ⟨S_, .f32⟩
  | 81 => ⟨S320000x128, .f32⟩
  | 82 => ⟨S320000x128, .f32⟩
  | 83 => ⟨S_, .f32⟩
  | 84 => ⟨S10000x128, .f32⟩
  | 85 => ⟨S320000x1, .i32⟩
  | 86 => ⟨S10000x128, .f32⟩
  | 87 => ⟨S_, .f32⟩
  | 88 => ⟨S320000, .f32⟩
  | 89 => ⟨S_, .f32⟩
  | 90 => ⟨S10000, .f32⟩
  | 91 => ⟨S320000x1, .i32⟩
  | 92 => ⟨S10000, .f32⟩
  | 93 => ⟨S_, .f32⟩
  | 94 => ⟨S10000, .f32⟩
  | 95 => ⟨S10000, .f32⟩
  | 96 => ⟨S10000x1, .f32⟩
  | 97 => ⟨S10000x128, .f32⟩
  | 98 => ⟨S10000x128, .f32⟩
  | 99 => ⟨S_, .f32⟩
  | 100 => ⟨S10000, .f32⟩
  | 101 => ⟨S10000x1, .f32⟩
  | 102 => ⟨S_, .f32⟩
  | 103 => ⟨S10000x1, .f32⟩
  | 104 => ⟨S10000x1, .f32⟩
  | 105 => ⟨S_, .i32⟩
  | 106 => ⟨S_, .f32⟩
  | 107 => ⟨S10000, .f32⟩
  | 108 => ⟨S10000x1, .f32⟩
  | 109 => ⟨S_, .f32⟩
  | 110 => ⟨S10000x1, .f32⟩
  | 111 => ⟨S10000x1, .f32⟩
  | 112 => ⟨S10000x128, .f32⟩
  | 113 => ⟨S10000x128, .f32⟩
  | 114 => ⟨S10000x128, .f32⟩
  | 115 => ⟨S_, .f32⟩
  | 116 => ⟨S_, .f32⟩
  | 117 => ⟨S_, .f32⟩
  | 118 => ⟨S_, .f32⟩
  | 119 => ⟨S10000, .f32⟩
  | 120 => ⟨S10000x1, .f32⟩
  | 121 => ⟨S10000x1, .f32⟩
  | 122 => ⟨S10000x1, .f32⟩
  | 123 => ⟨S_, .f32⟩
  | 124 => ⟨S_, .i1⟩
  | 125 => ⟨S_, .f32⟩
  | 126 => ⟨S_, .f32⟩
  | 127 => ⟨S10000x1, .f32⟩
  | _ => ⟨S10000x128, .f32⟩

abbrev hbmTy0_1 (i : Nat) : BufTy := match i % 128 with
  | 0 => ⟨S10000x1, .f32⟩
  | 1 => ⟨S10000x128, .f32⟩
  | 2 => ⟨S10000x128, .f32⟩
  | 3 => ⟨S_, .f32⟩
  | 4 => ⟨S10000x1, .f32⟩
  | 5 => ⟨S10000x1, .f32⟩
  | 6 => ⟨S10000x1, .f32⟩
  | 7 => ⟨S10000x128, .f32⟩
  | 8 => ⟨S10000x128, .f32⟩
  | 9 => ⟨S10000x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S10000x256, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S10000x128, .f32⟩
  | 22 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v23 : Ref sig .tc := ⟨.hbm, 82, rfl⟩
abbrev main_cst_3 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_4 : Ref sig .tc := ⟨.hbm, 87, rfl⟩
abbrev main_v27 : Ref sig .tc := ⟨.hbm, 88, rfl⟩
abbrev main_cst_5 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_6 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst_7 : Ref sig .tc := ⟨.hbm, 99, rfl⟩
abbrev main_v36 : Ref sig .tc := ⟨.hbm, 100, rfl⟩
abbrev main_v37 : Ref sig .tc := ⟨.hbm, 101, rfl⟩
abbrev main_cst_8 : Ref sig .tc := ⟨.hbm, 102, rfl⟩
abbrev main_v38 : Ref sig .tc := ⟨.hbm, 103, rfl⟩
abbrev main_v39 : Ref sig .tc := ⟨.hbm, 104, rfl⟩
abbrev main_c : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_v12 : Ref sig .tc := ⟨.hbm, 122, rfl⟩
abbrev main_call2_cst_3 : Ref sig .tc := ⟨.hbm, 123, rfl⟩
abbrev main_call2_v13 : Ref sig .tc := ⟨.hbm, 124, rfl⟩
abbrev main_call2_cst_4 : Ref sig .tc := ⟨.hbm, 125, rfl⟩
abbrev main_call2_call0_v0 : Ref sig .tc := ⟨.hbm, 126, rfl⟩
abbrev main_call2_call0_v1 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_9 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_call3_cst : Ref sig .tc := ⟨.hbm, 148, rfl⟩
abbrev main_call3_v0 : Ref sig .tc := ⟨.hbm, 149, rfl⟩
abbrev main_v59 : Ref sig .tc := ⟨.hbm, 150, rfl⟩

abbrev nD : Nat := 1
abbrev τ : Topo := Topo.v7x

variable {F : FTy → Type} [FloatOps F]
-- ==== Proof.HostParts.lean ====
/- What @main's host operations around the two kernel regions leave in the buffers that the regions read, each as the
   reference's own stage of it: the edges' ends, the nodes' degrees, the rows taken along the edges, their sums. The
   operations are the reference's, so the two terms are the same; each lemma reads one stretch of operations, from any
   contents `U` of the buffers before it. -/
module

public import proofs.«01_k».proof.Proof.Gen.KernelIdeal.Frame
public import proofs.«01_k».proof.Proof.Gen.ReferenceIdeal.Read

@[expose] public section

set_option maxRecDepth 16384

noncomputable section

open Idealize.ShloMosaic Idealize.ShloMosaic.TcCoe Idealize.SL.Sem

namespace Cert.KernelIdeal.HostParts

open Cert.KernelIdeal Cert.KernelIdeal.Gen
open Cert.ReferenceIdeal.Read

-- the contents of the buffers before a stretch of operations
variable (U : Valuation τ sig (Elt Ideal))

/-- The edges' sources. -/
theorem src : StableHlo.after hostOps0 U (Proc.devRef .tc main_v1) = val_main_v1 (U (Proc.devRef .tc main_arg1)) := by
  after_results; rfl

/-- The edges' destinations. -/
theorem dst : StableHlo.after hostOps0 U (Proc.devRef .tc main_v3) = val_main_v3 (U (Proc.devRef .tc main_arg1)) := by
  after_results; rfl

/-- The nodes' degrees, as a column. -/
theorem deg : StableHlo.after hostOps0 U (Proc.devRef .tc main_v8)
    = broadcastInDim S10000x1 ![0] bcast_S10000_S10000x1_0 (val_main_v11 (U (Proc.devRef .tc main_arg1))) := by
  after_results; rfl

/-- The input features taken along the edges. -/
theorem take0 (x1 : Vec Ideal S2x320000 .i32) (h : U (Proc.devRef .tc main_v1) = val_main_v1 x1) :
    StableHlo.after hostOps0_1 U (Proc.devRef .tc main_v9) = val_main_v4 (U (Proc.devRef .tc main_arg0)) x1 := by
  after_results
  rw [h]
  simp -implicitDefEqProofs only [StableHlo.TRef.toBuf, StableHlo.TRef.ofBuf, cast_cast, cast_eq]
  rfl

/-- Their sums at the edges' destinations. -/
theorem agg0 (x0 : Vec Ideal S10000x128 .f32) (x1 : Vec Ideal S2x320000 .i32)
    (h3 : U (Proc.devRef .tc main_v3) = val_main_v3 x1) (h9 : U (Proc.devRef .tc main_v9) = val_main_v4 x0 x1) :
    StableHlo.after hostOps0_2 U (Proc.devRef .tc main_v12) = val_main_v7 x0 x1 := by
  after_results; rw [h3, h9]; rfl

/-- The first bias as a row. -/
theorem bias0 : StableHlo.after hostOps0_2 U (Proc.devRef .tc main_v13)
    = shapeCast S1x128 (U (Proc.devRef .tc main_arg5)) shapeCasts_S128_S1x128 := by
  after_results; rfl

/-- The first layer's features taken along the edges. -/
theorem take1 (x0 : Vec Ideal S10000x128 .f32) (x1 : Vec Ideal S2x320000 .i32) (x3 x4 : Vec Ideal S128x128 .f32)
    (x5 : Vec Ideal S128 .f32) (h1 : U (Proc.devRef .tc main_v1) = val_main_v1 x1)
    (h14 : U (Proc.devRef .tc main_v14) = val_main_v22 x0 x1 x3 x4 x5) :
    StableHlo.after hostOps1 U (Proc.devRef .tc main_v15) = val_main_v23 x0 x1 x3 x4 x5 := by
  after_results
  rw [h1, h14]
  simp -implicitDefEqProofs only [StableHlo.TRef.toBuf, StableHlo.TRef.ofBuf, cast_cast, cast_eq]
  rfl

/-- Their sums at the edges' destinations. -/
theorem agg1 (x0 : Vec Ideal S10000x128 .f32) (x1 : Vec Ideal S2x320000 .i32) (x3 x4 : Vec Ideal S128x128 .f32)
    (x5 : Vec Ideal S128 .f32) (h3 : U (Proc.devRef .tc main_v3) = val_main_v3 x1)
    (h15 : U (Proc.devRef .tc main_v15) = val_main_v23 x0 x1 x3 x4 x5) :
    StableHlo.after hostOps1_1 U (Proc.devRef .tc main_v18) = val_main_v26 x0 x1 x3 x4 x5 := by
  after_results; rw [h3, h15]; rfl

/-- The second bias as a row. -/
theorem bias1 : StableHlo.after hostOps1_1 U (Proc.devRef .tc main_v19)
    = shapeCast S1x128 (U (Proc.devRef .tc main_arg8)) shapeCasts_S128_S1x128 := by
  after_results; rfl

/-- The last layer's weights for the first layer's features: the upper half of the rows. -/
theorem upper : StableHlo.after hostOps1_1 U (Proc.devRef .tc main_v20)
    = extractStridedSlice S128x128 ![0, 0] (U (Proc.devRef .tc main_arg9)) slices_S256x128_S128x128_0_0 := by
  after_results

/-- The last layer's weights for the second layer's features: the lower half of the rows. -/
theorem lower : StableHlo.after hostOps1_1 U (Proc.devRef .tc main_v21)
    = extractStridedSlice S128x128 ![128, 0] (U (Proc.devRef .tc main_arg9)) slices_S256x128_S128x128_128_0 := by
  after_results

/-- The last bias as a row. -/
theorem bias2 : StableHlo.after hostOps1_1 U (Proc.devRef .tc main_v22)
    = shapeCast S1x128 (U (Proc.devRef .tc main_arg10)) shapeCasts_S128_S1x128 := by
  after_results; rfl

end Cert.KernelIdeal.HostParts
-- ==== Proof.FirstLayer.lean ====
/- The first kernel region: one graph convolution, a thousand rows of the nodes at each of the ten grid points.
   `conv` is the mathematics (a row of the result, from that row of the node features and of the neighbours' sum);
   `final0` says that the region's output array is `conv` of the arrays the region finds. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.FirstLayer

open Cert.KernelIdeal Cert.KernelIdeal.Gen

/-- One graph convolution before any normalisation: row `i 0` of the features `X` times `Wr`, plus the mean over the
    neighbours (the sum `A` over the degree `D`, at least one) times `Wn`, plus the bias `B`. -/
def conv (A : FVec Ideal S10000x128 .f32) (D : FVec Ideal S10000x1 .f32) (X : FVec Ideal S10000x128 .f32)
    (Wr Wn : FVec Ideal S128x128 .f32) (B : FVec Ideal S1x128 .f32) : FVec Ideal S10000x128 .f32 := fun i =>
  ((∑ k : Fin 128, X (ix2 (i 0) k) * Wr (ix2 k (i 1)))
    + ∑ k : Fin 128, Ideal.div (A (ix2 (i 0) k)) (max (D (ix2 (i 0) 0)) 1)
        * Wn (ix2 k (i 1)))
  + B (ix2 0 (i 1))

/-- Where each window stands at a grid point: the three row-blocked arrays and the result at row block `t`, the
    weights and the bias whole. -/
theorem idx : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] :=
  (by decide +kernel : ∀ t : Fin grid0.N, _)

-- what the TensorCore's buffers hold when the region is entered
variable (V : (c : Dev nD) → (b : Ref sig .tc) → Buf (Elt Ideal) ((c : Thread nD τ).loc b))

/-- What the body stores at index `y` of the block at point `t` is `conv` at the place of the array where `y` sits. -/
theorem point (c : Dev nD) (t : Fin cfg0.N) (y : S1000x128.Idx) :
    k0_pay1 (F := Ideal) (iblk0 V c 1 t) (iblk0 V c 0 t) (iblk0 V c 2 t) (iblk0 V c 3 t) (iblk0 V c 4 t)
        (iblk0 V c 5 t) y
      = conv (V c main_v12) (V c main_v8) (V c main_arg0) (V c main_arg3) (V c main_arg4) (V c main_v13)
          (((cfg0.win 6).blk t).view.emb y) := by
  pointwise [k0_pay1, conv]
  blk_point [iblk0, idx t]

/-- The region's output array when the grid is done: `conv` of what the region finds. -/
theorem final0 (c : Dev nD) : (dat0 V c).arrAt 6 cfg0.N
    = conv (V c main_v12) (V c main_v8) (V c main_arg0) (V c main_arg3) (V c main_arg4) (V c main_v13) := by
  refine (dat0 V c).arrAt_eq_of_covers 6 _ (by decide +kernel) fun t _ y => ?_
  blk_simp
  rw [after0_6]
  frame_out
  exact point V c t y

end Cert.KernelIdeal.FirstLayer
-- ==== Proof.FirstStage.lean ====
/- The reference's first layer is `FirstLayer.conv` of its own neighbours' sums and degrees. -/
module

public import proofs.«01_k».proof.Proof.FirstLayer
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.KernelIdeal.FirstStage

open Cert.KernelIdeal Cert.KernelIdeal.Gen
open Cert.ReferenceIdeal.Read

/-- The first layer: the kernel takes the degrees as a column and the bias as a row, and bounds the degree below after
    that; the reference bounds it first. -/
theorem conv_eq (x0 : Vec Ideal S10000x128 .f32) (x1 : Vec Ideal S2x320000 .i32) (x3 x4 : Vec Ideal S128x128 .f32)
    (x5 : Vec Ideal S128 .f32) :
    FirstLayer.conv (val_main_v7 x0 x1)
        (broadcastInDim S10000x1 ![0] bcast_S10000_S10000x1_0 (val_main_v11 (F := Ideal) x1)) x0 x3 x4
        (shapeCast S1x128 x5 shapeCasts_S128_S1x128)
      = val_main_v22 x0 x1 x3 x4 x5 := by
  unfold val_main_v22 val_main_v19 val_main_v17 val_main_v18 val_main_v16 val_main_v15 val_main_v14 val_main_v13
  generalize val_main_v7 x0 x1 = A
  generalize val_main_v11 (F := Ideal) x1 = D
  funext i
  pointwise [FirstLayer.conv, val_main_v12, val_main_cst_2, val_main_v21, val_main_v20]

end Cert.KernelIdeal.FirstStage
-- ==== Proof.SecondLayer.lean ====
/- The second kernel region: the graph convolution of the normalised neighbours' mean, then the last linear layer over
   both layers' features and the positive part, a thousand rows of the nodes at each of the ten grid points.
   `head` is the mathematics; `final1` says that the region's output array is `head` of the arrays the region finds. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.SecondLayer

open Cert.KernelIdeal Cert.KernelIdeal.Gen

/-- The mean over the neighbours of node `r`, at feature `k`. -/
def nbr (A : FVec Ideal S10000x128 .f32) (D : FVec Ideal S10000x1 .f32) (r : Fin 10000) (k : Fin 128) : Ideal .f32 :=
  Ideal.div (A (ix2 r k)) (max (D (ix2 r 0)) 1)

/-- The mean of that row over its 128 features. -/
def mu (A : FVec Ideal S10000x128 .f32) (D : FVec Ideal S10000x1 .f32) (r : Fin 10000) : Ideal .f32 :=
  Ideal.div (∑ k : Fin 128, nbr A D r k) (Ideal.ofBits .f32 0x43000000#32)

/-- The variance of that row over its 128 features. -/
def var (A : FVec Ideal S10000x128 .f32) (D : FVec Ideal S10000x1 .f32) (r : Fin 10000) : Ideal .f32 :=
  Ideal.div (∑ k : Fin 128, (nbr A D r k - mu A D r) * (nbr A D r k - mu A D r))
    (Ideal.ofBits .f32 0x43000000#32)

/-- The row centred and divided by its deviation. -/
def unit (A : FVec Ideal S10000x128 .f32) (D : FVec Ideal S10000x1 .f32) (r : Fin 10000) (k : Fin 128) : Ideal .f32 :=
  Ideal.div (nbr A D r k - mu A D r) (Ideal.sqrt (var A D r + Ideal.ofBits .f32 0x3727C5AC#32))

/-- The second graph convolution at node `r` and feature `j`. -/
def conv (A : FVec Ideal S10000x128 .f32) (D : FVec Ideal S10000x1 .f32) (X : FVec Ideal S10000x128 .f32)
    (Wr Wn : FVec Ideal S128x128 .f32) (B : FVec Ideal S1x128 .f32) (r : Fin 10000) (j : Fin 128) : Ideal .f32 :=
  ((∑ k : Fin 128, X (ix2 r k) * Wr (ix2 k j)) + ∑ k : Fin 128, unit A D r k * Wn (ix2 k j)) + B (ix2 0 j)

/-- The last layer: the first layer's features `X` times `Wa`, plus the second's times `Wb`, plus the bias, cut at
    zero from below. -/
def head (A : FVec Ideal S10000x128 .f32) (D : FVec Ideal S10000x1 .f32) (X : FVec Ideal S10000x128 .f32)
    (Wr Wn : FVec Ideal S128x128 .f32) (B : FVec Ideal S1x128 .f32) (Wa Wb : FVec Ideal S128x128 .f32)
    (Bl : FVec Ideal S1x128 .f32) : FVec Ideal S10000x128 .f32 := fun i =>
  max (((∑ k : Fin 128, X (ix2 (i 0) k) * Wa (ix2 k (i 1)))
      + ∑ k : Fin 128, conv A D X Wr Wn B (i 0) k * Wb (ix2 k (i 1))) + Bl (ix2 0 (i 1))) 0

/-- Where each window stands at a grid point: the row-blocked arrays and the result at row block `t`, the weights and
    the biases whole. -/
theorem idx : ∀ t : Fin cfg1.N,
    win1_0.index t = ![t.val, 0] ∧ win1_1.index t = ![t.val, 0] ∧ win1_2.index t = ![t.val, 0]
    ∧ win1_3.index t = ![0, 0] ∧ win1_4.index t = ![0, 0] ∧ win1_5.index t = ![0, 0]
    ∧ win1_6.index t = ![0, 0] ∧ win1_7.index t = ![0, 0] ∧ win1_8.index t = ![0, 0]
    ∧ win1_9.index t = ![t.val, 0] :=
  (by decide +kernel : ∀ t : Fin grid1.N, _)

-- what the TensorCore's buffers hold when the region is entered
variable (V : (c : Dev nD) → (b : Ref sig .tc) → Buf (Elt Ideal) ((c : Thread nD τ).loc b))

/-- What the body stores at index `y` of the block at point `t` is `head` at the place of the array where `y` sits. -/
theorem point (c : Dev nD) (t : Fin cfg1.N) (y : S1000x128.Idx) :
    k1_pay1 (F := Ideal) (k1_pay2 (iblk1 V c 2 t))
        (k1_pay3 (iblk1 V c 1 t) (iblk1 V c 0 t) (iblk1 V c 2 t) (iblk1 V c 3 t) (iblk1 V c 4 t) (iblk1 V c 5 t))
        (iblk1 V c 6 t) (iblk1 V c 7 t) (iblk1 V c 8 t) y
      = head (V c main_v18) (V c main_v8) (V c main_v14) (V c main_arg6) (V c main_arg7) (V c main_v19)
          (V c main_v20) (V c main_v21) (V c main_v22) (((cfg1.win 9).blk t).view.emb y) := by
  pointwise [k1_pay1, k1_pay2, k1_pay3, head, conv, unit, var, mu, nbr]
  blk_point [iblk1, idx t]

/-- The region's output array when the grid is done: `head` of what the region finds. -/
theorem final1 (c : Dev nD) : (dat1 V c).arrAt 9 cfg1.N
    = head (V c main_v18) (V c main_v8) (V c main_v14) (V c main_arg6) (V c main_arg7) (V c main_v19)
        (V c main_v20) (V c main_v21) (V c main_v22) := by
  refine (dat1 V c).arrAt_eq_of_covers 9 _ (by decide +kernel) fun t _ y => ?_
  blk_simp
  rw [after1_9]
  frame_out
  exact point V c t y

end Cert.KernelIdeal.SecondLayer
-- ==== Proof.LastStage.lean ====
/- The reference's second layer and last layer are `SecondLayer.head` of its own first layer, sums and degrees. -/
module

public import proofs.«01_k».proof.Proof.SecondLayer
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.KernelIdeal.LastStage

open Cert.KernelIdeal Cert.KernelIdeal.Gen
open Cert.ReferenceIdeal.Read

/-- The word that both programs divide by is 128. -/
theorem ofBits_128 : Ideal.ofBits .f32 0x43000000#32 = ((128 : ℝ) : EReal) := by
  simp [Ideal.ofBits, Ideal.ieee, -EReal.coe_mul]
  norm_num

/-- The divisor of the reference's variance, 128 less the zero degrees of freedom taken off, is 128. -/
theorem divisor : val_main_call2_v8 (F := Ideal) = constant (F := Ideal) S_ .f32 0x43000000#32 := by
  funext i
  have z : (FloatOps.sitofp (F := Ideal) .f32 (0#32) : EReal) = 0 := by
    show (((0#32 : BitVec 32).toInt : ℝ) : EReal) = 0
    simp
  pointwise [val_main_call2_v8, val_main_call2_cst_1, val_main_call2_v7, val_main_c]
  rw [z, sub_zero]

/-- It is positive, so the reference takes the quotient. -/
theorem positive : val_main_call2_v13 (F := Ideal) = constantI S_ 1 1#1 := by
  funext i
  unfold val_main_call2_v13
  rw [divisor]
  pointwise [val_main_call2_cst_3]
  rw [ofBits_128, decide_eq_true (by exact_mod_cast (by norm_num : (0 : ℝ) < 128))]
  rfl

variable (x0 : Vec Ideal S10000x128 .f32) (x1 : Vec Ideal S2x320000 .i32) (x3 x4 : Vec Ideal S128x128 .f32)
  (x5 : Vec Ideal S128 .f32)

/-- The degrees as the kernel's column. -/
abbrev degs : FVec Ideal S10000x1 .f32 := broadcastInDim S10000x1 ![0] bcast_S10000_S10000x1_0 (val_main_v11 (F := Ideal) x1)

/-- The second layer's mean over the neighbours. -/
theorem nbr_eq (r : Fin 10000) (k : Fin 128) :
    val_main_v35 x0 x1 x3 x4 x5 (ix2 r k) = SecondLayer.nbr (val_main_v26 x0 x1 x3 x4 x5) (degs x1) r k := by
  have e : val_main_v30 (F := Ideal) x1 = val_main_v11 x1 := rfl
  unfold val_main_v35 val_main_v34 val_main_v33 val_main_v32
  rw [e]
  generalize val_main_v26 x0 x1 x3 x4 x5 = A
  unfold degs
  generalize val_main_v11 (F := Ideal) x1 = D
  pointwise [SecondLayer.nbr, val_main_v31, val_main_cst_6]

/-- Its mean over the features. -/
theorem mu_eq (r : Fin 10000) (k : Fin 1) :
    val_main_v39 x0 x1 x3 x4 x5 (ix2 r k) = SecondLayer.mu (val_main_v26 x0 x1 x3 x4 x5) (degs x1) r := by
  unfold SecondLayer.mu
  simp only [← nbr_eq]
  unfold val_main_v39 val_main_v37 val_main_v36
  generalize val_main_v35 x0 x1 x3 x4 x5 = A
  pointwise [val_main_v38, val_main_cst_7, val_main_cst_8]

/-- Its variance over the features. -/
theorem var_eq (r : Fin 10000) (k : Fin 1) :
    val_main_v40 x0 x1 x3 x4 x5 (ix2 r k) = SecondLayer.var (val_main_v26 x0 x1 x3 x4 x5) (degs x1) r := by
  have e : val_main_v40 x0 x1 x3 x4 x5 = val_main_call2_v12 x0 x1 x3 x4 x5 := by
    unfold val_main_v40
    rw [positive]
    generalize val_main_call2_v12 x0 x1 x3 x4 x5 = C
    generalize val_main_call2_call0_v1 (F := Ideal) = N
    funext i
    pointwise
  rw [e]
  unfold SecondLayer.var SecondLayer.mu
  simp only [← nbr_eq]
  unfold val_main_call2_v12 val_main_call2_v11 val_main_call2_v10 val_main_call2_v9 val_main_call2_v6 val_main_call2_v5
    val_main_call2_v4 val_main_call2_v3 val_main_call2_v1 val_main_call2_v0
  rw [divisor]
  generalize val_main_v35 x0 x1 x3 x4 x5 = A
  pointwise [val_main_call2_v2, val_main_call2_cst, val_main_call2_cst_0, val_main_call2_cst_2]

/-- The row centred and divided by its deviation. -/
theorem unit_eq (r : Fin 10000) (k : Fin 128) :
    val_main_v47 x0 x1 x3 x4 x5 (ix2 r k) = SecondLayer.unit (val_main_v26 x0 x1 x3 x4 x5) (degs x1) r k := by
  unfold SecondLayer.unit
  rw [← nbr_eq, ← mu_eq x0 x1 x3 x4 x5 r 0, ← var_eq x0 x1 x3 x4 x5 r 0]
  unfold val_main_v47 val_main_v46 val_main_v45 val_main_v44 val_main_v42 val_main_v41
  generalize val_main_v35 x0 x1 x3 x4 x5 = A
  generalize val_main_v39 x0 x1 x3 x4 x5 = B
  generalize val_main_v40 x0 x1 x3 x4 x5 = C
  pointwise [val_main_v43, val_main_cst_9]

variable (x6 x7 : Vec Ideal S128x128 .f32) (x8 : Vec Ideal S128 .f32)

/-- The second layer. -/
theorem conv_eq (r : Fin 10000) (j : Fin 128) :
    val_main_v53 x0 x1 x3 x4 x5 x6 x7 x8 (ix2 r j)
      = SecondLayer.conv (val_main_v26 x0 x1 x3 x4 x5) (degs x1) (val_main_v22 x0 x1 x3 x4 x5) x6 x7
          (shapeCast S1x128 x8 shapeCasts_S128_S1x128) r j := by
  unfold SecondLayer.conv
  simp only [← unit_eq]
  unfold val_main_v53 val_main_v50 val_main_v49 val_main_v48
  generalize val_main_v47 x0 x1 x3 x4 x5 = A
  generalize val_main_v22 x0 x1 x3 x4 x5 = B
  pointwise [val_main_v52, val_main_v51]

variable (x9 : Vec Ideal S256x128 .f32) (x10 : Vec Ideal S128 .f32)

/-- The last layer: the product with the joined features, 256 deep, is the sum of the two products, 128 deep. -/
theorem head_eq :
    SecondLayer.head (val_main_v26 x0 x1 x3 x4 x5) (degs x1) (val_main_v22 x0 x1 x3 x4 x5) x6 x7
        (shapeCast S1x128 x8 shapeCasts_S128_S1x128)
        (extractStridedSlice S128x128 ![0, 0] x9 slices_S256x128_S128x128_0_0)
        (extractStridedSlice S128x128 ![128, 0] x9 slices_S256x128_S128x128_128_0)
        (shapeCast S1x128 x10 shapeCasts_S128_S1x128)
      = val_main_v59 x0 x1 x3 x4 x5 x6 x7 x8 x9 x10 := by
  funext i
  obtain ⟨r, j, rfl⟩ : ∃ (r : Fin 10000) (j : Fin 128), i = ix2 r j := ⟨i 0, i 1, eq_ix2 i⟩
  unfold SecondLayer.head
  simp only [ix2_0, ix2_1, ← conv_eq]
  unfold val_main_v59 val_main_v58 val_main_v55 val_main_v54
  generalize val_main_v53 x0 x1 x3 x4 x5 x6 x7 x8 = A
  generalize val_main_v22 x0 x1 x3 x4 x5 = B
  pointwise [val_main_v57, val_main_v56, val_main_call3_v0, val_main_call3_cst]

end Cert.KernelIdeal.LastStage
-- ==== Proof.Result.lean ====
/- The kernel's result array is the reference's result stage of the launch arguments: the boundary contents between
   @main's stretches, followed from the launch to the end. -/
module

public import proofs.«01_k».proof.Proof.HostParts
public import proofs.«01_k».proof.Proof.FirstStage
public import proofs.«01_k».proof.Proof.LastStage

@[expose] public section

set_option maxRecDepth 16384

noncomputable section

open Idealize.ShloMosaic Idealize.ShloMosaic.TcCoe Idealize.SL.Sem

namespace Cert.KernelIdeal.Result

open Cert.KernelIdeal Cert.KernelIdeal.Gen
open Cert.ReferenceIdeal.Read

variable (m : (ℓ : Loc nD τ sig) → Buf (Elt Ideal) ℓ) (ρ : Dev nD → PrngReg) (c : Dev nD)

/-- An argument as launched. -/
abbrev a0 : Vec Ideal S10000x128 .f32 := m ((c : Thread nD τ).loc main_arg0)
@[inherit_doc a0] abbrev a1 : Vec Ideal S2x320000 .i32 := m ((c : Thread nD τ).loc main_arg1)
@[inherit_doc a0] abbrev a3 : Vec Ideal S128x128 .f32 := m ((c : Thread nD τ).loc main_arg3)
@[inherit_doc a0] abbrev a4 : Vec Ideal S128x128 .f32 := m ((c : Thread nD τ).loc main_arg4)
@[inherit_doc a0] abbrev a5 : Vec Ideal S128 .f32 := m ((c : Thread nD τ).loc main_arg5)
@[inherit_doc a0] abbrev a6 : Vec Ideal S128x128 .f32 := m ((c : Thread nD τ).loc main_arg6)
@[inherit_doc a0] abbrev a7 : Vec Ideal S128x128 .f32 := m ((c : Thread nD τ).loc main_arg7)
@[inherit_doc a0] abbrev a8 : Vec Ideal S128 .f32 := m ((c : Thread nD τ).loc main_arg8)
@[inherit_doc a0] abbrev a9 : Vec Ideal S256x128 .f32 := m ((c : Thread nD τ).loc main_arg9)
@[inherit_doc a0] abbrev a10 : Vec Ideal S128 .f32 := m ((c : Thread nD τ).loc main_arg10)

/-! ## Up to the first region -/

theorem src1 : W1 m ρ c (Proc.devRef .tc main_v1) = val_main_v1 (a1 m c) := HostParts.src (W0 m ρ c)
theorem dst1 : W1 m ρ c (Proc.devRef .tc main_v3) = val_main_v3 (a1 m c) := HostParts.dst (W0 m ρ c)
theorem deg1 : W1 m ρ c (Proc.devRef .tc main_v8) = LastStage.degs (a1 m c) := HostParts.deg (W0 m ρ c)

theorem dst2 : W2 m ρ c (Proc.devRef .tc main_v3) = val_main_v3 (a1 m c) :=
  (W2_of m ρ c main_v3 (by decide)).trans (dst1 m ρ c)

theorem take2 : W2 m ρ c (Proc.devRef .tc main_v9) = val_main_v4 (a0 m c) (a1 m c) := by
  rw [← show W1 m ρ c (Proc.devRef .tc main_arg0) = a0 m c from W1_args m ρ c main_arg0 (by decide)]
  exact HostParts.take0 (W1 m ρ c) _ (src1 m ρ c)

theorem agg3 : W3 m ρ c (Proc.devRef .tc main_v12) = val_main_v7 (a0 m c) (a1 m c) :=
  HostParts.agg0 (W2 m ρ c) _ _ (dst2 m ρ c) (take2 m ρ c)

theorem deg3 : W3 m ρ c (Proc.devRef .tc main_v8) = LastStage.degs (a1 m c) :=
  (W3_of m ρ c main_v8 (by decide)).trans ((W2_of m ρ c main_v8 (by decide)).trans (deg1 m ρ c))

theorem bias3 : W3 m ρ c (Proc.devRef .tc main_v13) = shapeCast S1x128 (a5 m c) shapeCasts_S128_S1x128 := by
  rw [← show W2 m ρ c (Proc.devRef .tc main_arg5) = a5 m c from W2_args m ρ c main_arg5 (by decide)]
  exact HostParts.bias0 (W2 m ρ c)

/-! ## The first region, and up to the second -/

/-- After the first region its output array is the reference's first layer. -/
theorem first4 : W4 m ρ c (Proc.devRef .tc main_v14)
    = val_main_v22 (a0 m c) (a1 m c) (a3 m c) (a4 m c) (a5 m c) := by
  refine (W4_arr m ρ c 6).trans ((FirstLayer.final0 (V3 m ρ) c).trans ?_)
  rw [show V3 m ρ c main_v12 = _ from agg3 m ρ c, show V3 m ρ c main_v8 = _ from deg3 m ρ c,
    show V3 m ρ c main_v13 = _ from bias3 m ρ c,
    show V3 m ρ c main_arg0 = a0 m c from W3_args m ρ c main_arg0 (by decide),
    show V3 m ρ c main_arg3 = a3 m c from W3_args m ρ c main_arg3 (by decide),
    show V3 m ρ c main_arg4 = a4 m c from W3_args m ρ c main_arg4 (by decide)]
  exact FirstStage.conv_eq _ _ _ _ _

theorem src4 : W4 m ρ c (Proc.devRef .tc main_v1) = val_main_v1 (a1 m c) :=
  (W4_of m ρ c main_v1 (by decide)).trans ((W3_of m ρ c main_v1 (by decide)).trans
    ((W2_of m ρ c main_v1 (by decide)).trans (src1 m ρ c)))

theorem dst5 : W5 m ρ c (Proc.devRef .tc main_v3) = val_main_v3 (a1 m c) :=
  (W5_of m ρ c main_v3 (by decide)).trans ((W4_of m ρ c main_v3 (by decide)).trans
    ((W3_of m ρ c main_v3 (by decide)).trans (dst2 m ρ c)))

theorem take5 : W5 m ρ c (Proc.devRef .tc main_v15)
    = val_main_v23 (a0 m c) (a1 m c) (a3 m c) (a4 m c) (a5 m c) :=
  HostParts.take1 (W4 m ρ c) _ _ _ _ _ (src4 m ρ c) (first4 m ρ c)

theorem agg6 : W6 m ρ c (Proc.devRef .tc main_v18)
    = val_main_v26 (a0 m c) (a1 m c) (a3 m c) (a4 m c) (a5 m c) :=
  HostParts.agg1 (W5 m ρ c) _ _ _ _ _ (dst5 m ρ c) (take5 m ρ c)

theorem deg6 : W6 m ρ c (Proc.devRef .tc main_v8) = LastStage.degs (a1 m c) :=
  (W6_of m ρ c main_v8 (by decide)).trans ((W5_of m ρ c main_v8 (by decide)).trans
    ((W4_of m ρ c main_v8 (by decide)).trans (deg3 m ρ c)))

theorem first6 : W6 m ρ c (Proc.devRef .tc main_v14)
    = val_main_v22 (a0 m c) (a1 m c) (a3 m c) (a4 m c) (a5 m c) :=
  (W6_of m ρ c main_v14 (by decide)).trans ((W5_of m ρ c main_v14 (by decide)).trans (first4 m ρ c))

theorem bias6 : W6 m ρ c (Proc.devRef .tc main_v19) = shapeCast S1x128 (a8 m c) shapeCasts_S128_S1x128 := by
  rw [← show W5 m ρ c (Proc.devRef .tc main_arg8) = a8 m c from W5_args m ρ c main_arg8 (by decide)]
  exact HostParts.bias1 (W5 m ρ c)

theorem upper6 : W6 m ρ c (Proc.devRef .tc main_v20)
    = extractStridedSlice S128x128 ![0, 0] (a9 m c) slices_S256x128_S128x128_0_0 := by
  rw [← show W5 m ρ c (Proc.devRef .tc main_arg9) = a9 m c from W5_args m ρ c main_arg9 (by decide)]
  exact HostParts.upper (W5 m ρ c)

theorem lower6 : W6 m ρ c (Proc.devRef .tc main_v21)
    = extractStridedSlice S128x128 ![128, 0] (a9 m c) slices_S256x128_S128x128_128_0 := by
  rw [← show W5 m ρ c (Proc.devRef .tc main_arg9) = a9 m c from W5_args m ρ c main_arg9 (by decide)]
  exact HostParts.lower (W5 m ρ c)

theorem last6 : W6 m ρ c (Proc.devRef .tc main_v22) = shapeCast S1x128 (a10 m c) shapeCasts_S128_S1x128 := by
  rw [← show W5 m ρ c (Proc.devRef .tc main_arg10) = a10 m c from W5_args m ρ c main_arg10 (by decide)]
  exact HostParts.bias2 (W5 m ρ c)

/-! ## The second region -/

/-- After the second region its output array is the reference's result. -/
theorem result7 : W7 m ρ c (Proc.devRef .tc main_v23)
    = val_main_v59 (a0 m c) (a1 m c) (a3 m c) (a4 m c) (a5 m c) (a6 m c) (a7 m c) (a8 m c) (a9 m c) (a10 m c) := by
  refine (W7_arr m ρ c 9).trans ((SecondLayer.final1 (V6 m ρ) c).trans ?_)
  rw [show V6 m ρ c main_v18 = _ from agg6 m ρ c, show V6 m ρ c main_v8 = _ from deg6 m ρ c,
    show V6 m ρ c main_v14 = _ from first6 m ρ c, show V6 m ρ c main_v19 = _ from bias6 m ρ c,
    show V6 m ρ c main_v20 = _ from upper6 m ρ c, show V6 m ρ c main_v21 = _ from lower6 m ρ c,
    show V6 m ρ c main_v22 = _ from last6 m ρ c,
    show V6 m ρ c main_arg6 = a6 m c from W6_args m ρ c main_arg6 (by decide),
    show V6 m ρ c main_arg7 = a7 m c from W6_args m ρ c main_arg7 (by decide)]
  exact LastStage.head_eq _ _ _ _ _ _ _ _ _ _

end Cert.KernelIdeal.Result
-- ==== Proof.ValueRun.lean ====
/- The kernel's run: it ends, its result array is the contents that the last region leaves, and its arguments are as
   launched. The launch is set up as for the frame; what is added is the result read off the final state. -/
module

public import proofs.«01_k».proof.Proof.Gen.KernelIdeal.Frame

@[expose] public section

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying types, which takes unfolding plain definitions
set_option backward.isDefEq.respectTransparency.types false in
/-- The run with its result: every weakly fair execution ends, with the result array at the last boundary's contents
    and the arguments as launched. -/
theorem run : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.ValueRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.ValueRun
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end with its arguments unchanged; it declares no counter that could be left above zero. -/
theorem reference_quiescent : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The kernel's result is the reference's, in exact arithmetic. -/
theorem algebraic : Cert.algebraic_KernelIdeal_ReferenceIdeal := by
  pair_intro
  · run_from Cert.KernelIdeal.ValueRun.run m g
  · run_from Cert.ReferenceIdeal.Value.run m' g'
    rw [Cert.ReferenceIdeal.Read.val_main_v59_eq, Cert.KernelIdeal.Result.result7 m g c]
    simp only [hagree c]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial,
  algebraic⟩

end Cert.Proof

end
